-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_point [hPre_zero_point : Cert.Pre_zero_point.Facts] (m : (ℓ : Loc Cert.KernelIdeal.nD Cert.KernelIdeal.τ Cert.KernelIdeal.sig) → Buf (Elt Ideal) ℓ) : Prop :=
  ∀ c : Dev Cert.KernelIdeal.nD,
    (Cert.Pre_zero_point.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_zero_point.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_point [hPre_zero_point : Cert.Pre_zero_point.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_point.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_zero_point.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_zero_point [hKernelIdeal : Cert.KernelIdeal.Facts] [hPre_zero_point : Cert.Pre_zero_point.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_point m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_zero_point [hReferenceIdeal : Cert.ReferenceIdeal.Facts] [hPre_zero_point : Cert.Pre_zero_point.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_point m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_zero_point [hKernelIdeal : Cert.KernelIdeal.Facts] [hReferenceIdeal : Cert.ReferenceIdeal.Facts] [hPre_zero_point : Cert.Pre_zero_point.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_point m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_zero_point : Cert.Pre_zero_point.Facts),
    quiescent_Kernel (hKernel := hKernel)
    ∧ quiescent_KernelIdeal (hKernelIdeal := hKernelIdeal)
    ∧ quiescent_KernelIdeal_pre_zero_point (hKernelIdeal := hKernelIdeal) (hPre_zero_point := hPre_zero_point)
    ∧ quiescent_ReferenceIdeal (hReferenceIdeal := hReferenceIdeal)
    ∧ quiescent_ReferenceIdeal_pre_zero_point (hReferenceIdeal := hReferenceIdeal) (hPre_zero_point := hPre_zero_point)
    ∧ preserves_Kernel_KernelIdeal
    ∧ algebraic_KernelIdeal_ReferenceIdeal_pre_zero_point (hKernelIdeal := hKernelIdeal) (hReferenceIdeal := hReferenceIdeal) (hPre_zero_point := hPre_zero_point)
-- ==== Pre_zero_point.lean ====
abbrev S1x128x4096 : Shape := ⟨3, ![1, 128, 4096]⟩
abbrev S_ : Shape := ⟨0, ![]⟩
abbrev S4096x14336 : Shape := ⟨2, ![4096, 14336]⟩
abbrev S14336 : Shape := ⟨1, ![14336]⟩

class Facts : Prop where

variable [Facts]

def fn {F : FTy → Type} [FloatOps F] (main_arg0 : IVec S1x128x4096 8) (main_arg1 : IVec S_ 32) (main_arg2 : IVec S4096x14336 8) (main_arg3 : IVec S14336 32) (main_arg4 : FVec F S14336 .f32) (main_arg5 : IVec S_ 32) : IVec S_ 1 × IVec S_ 1 :=
  let main_c : IVec S_ 32 := constantI S_ 32 4294934655#32
  let main_v0 : IVec S_ 1 := cmpi .sge main_arg1 main_c
  let main_c_0 : IVec S_ 32 := constantI S_ 32 32639#32
  let main_v1 : IVec S_ 1 := cmpi .sle main_arg1 main_c_0
  (main_v0, main_v1)
-- ==== Kernel.lean ====
abbrev S1x128x4096 : Shape := ⟨3, ![1, 128, 4096]⟩
abbrev S_ : Shape := ⟨0, ![]⟩
abbrev S4096x14336 : Shape := ⟨2, ![4096, 14336]⟩
abbrev S14336 : Shape := ⟨1, ![14336]⟩
abbrev S1 : Shape := ⟨1, ![1]⟩
abbrev S2 : Shape := ⟨1, ![2]⟩
abbrev S128x4096 : Shape := ⟨2, ![128, 4096]⟩
abbrev S1x14336 : Shape := ⟨2, ![1, 14336]⟩
abbrev S128x14336 : Shape := ⟨2, ![128, 14336]⟩
abbrev S4096x512 : Shape := ⟨2, ![4096, 512]⟩
abbrev S1x512 : Shape := ⟨2, ![1, 512]⟩
abbrev S128x512 : Shape := ⟨2, ![128, 512]⟩
abbrev S512x512 : Shape := ⟨2, ![512, 512]⟩

abbrev nBuf : Space → Nat
  | .hbm => 13
  | .vmem => 10
  | .smem => 1
  | _ => 0

abbrev bufTy : (tb : Table) → Fin (tcTables nBuf tb) → BufTy
  | .hbm, ⟨0, _⟩ => ⟨S1x128x4096, .i8⟩
  | .hbm, ⟨1, _⟩ => ⟨S_, .i32⟩
  | .hbm, ⟨2, _⟩ => ⟨S4096x14336, .i8⟩
  | .hbm, ⟨3, _⟩ => ⟨S14336, .i32⟩
  | .hbm, ⟨4, _⟩ => ⟨S14336, .f32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S2, .i32⟩
  | .hbm, ⟨9, _⟩ => ⟨S128x4096, .i8⟩
  | .hbm, ⟨10, _⟩ => ⟨S1x14336, .i32⟩
  | .hbm, ⟨11, _⟩ => ⟨S1x14336, .f32⟩
  | .hbm, ⟨12, _⟩ => ⟨S128x14336, .i8⟩
  | .local _ .vmem, ⟨0, _⟩ => ⟨S128x4096, .i8⟩
  | .local _ .vmem, ⟨1, _⟩ => ⟨S4096x512, .i8⟩
  | .local _ .vmem, ⟨2, _⟩ => ⟨S4096x512, .i8⟩
  | .local _ .vmem, ⟨3, _⟩ => ⟨S1x512, .i32⟩
  | .local _ .vmem, ⟨4, _⟩ => ⟨S1x512, .i32⟩
  | .local _ .vmem, ⟨5, _⟩ => ⟨S1x512, .f32⟩
  | .local _ .vmem, ⟨6, _⟩ => ⟨S1x512, .f32⟩
  | .local _ .vmem, ⟨7, _⟩ => ⟨S128x512, .i8⟩
  | .local _ .vmem, ⟨8, _⟩ => ⟨S128x512, .i8⟩
  | .local _ .vmem, ⟨9, _⟩ => ⟨S128x4096, .bf16⟩
  | .local _ .smem, ⟨0, _⟩ => ⟨S2, .i32⟩
  | _, _ => ⟨S1x128x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![28], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x4096 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x128x4096 : Shape := ⟨3, ![1, 128, 4096]⟩
abbrev S_ : Shape := ⟨0, ![]⟩
abbrev S4096x14336 : Shape := ⟨2, ![4096, 14336]⟩
abbrev S14336 : Shape := ⟨1, ![14336]⟩
abbrev S128x4096 : Shape := ⟨2, ![128, 4096]⟩
abbrev S1x4096 : Shape := ⟨2, ![1, 4096]⟩
abbrev S129x4096 : Shape := ⟨2, ![129, 4096]⟩
abbrev S129x4096x1 : Shape := ⟨3, ![129, 4096, 1]⟩
abbrev S1x4096x14336 : Shape := ⟨3, ![1, 4096, 14336]⟩
abbrev S129x4096x14336 : Shape := ⟨3, ![129, 4096, 14336]⟩
abbrev S129x14336 : Shape := ⟨2, ![129, 14336]⟩
abbrev S128x14336 : Shape := ⟨2, ![128, 14336]⟩
abbrev S1x14336 : Shape := ⟨2, ![1, 14336]⟩

abbrev nBuf : Space → Nat
  | .hbm => 49
  | .vmem => 0
  | .smem => 0
  | _ => 0

abbrev bufTy : (tb : Table) → Fin (tcTables nBuf tb) → BufTy
  | .hbm, ⟨0, _⟩ => ⟨S1x128x4096, .i8⟩
  | .hbm, ⟨1, _⟩ => ⟨S_, .i32⟩
  | .hbm, ⟨2, _⟩ => ⟨S4096x14336, .i8⟩
  | .hbm, ⟨3, _⟩ => ⟨S14336, .i32⟩
  | .hbm, ⟨4, _⟩ => ⟨S14336, .f32⟩
  | .hbm, ⟨5, _⟩ => ⟨S_, .i32⟩
  | .hbm, ⟨6, _⟩ => ⟨S128x4096, .i8⟩
  | .hbm, ⟨7, _⟩ => ⟨S_, .i8⟩
  | .hbm, ⟨8, _⟩ => ⟨S1x4096, .i8⟩
  | .hbm, ⟨9, _⟩ => ⟨S129x4096, .i8⟩
  | .hbm, ⟨10, _⟩ => ⟨S129x4096, .i32⟩
  | .hbm, ⟨11, _⟩ => ⟨S129x4096x1, .i32⟩
  | .hbm, ⟨12, _⟩ => ⟨S4096x14336, .i32⟩
  | .hbm, ⟨13, _⟩ => ⟨S1x4096x14336, .i32⟩
  | .hbm, ⟨14, _⟩ => ⟨S129x4096x14336, .i32⟩
  | .hbm, ⟨15, _⟩ => ⟨S129x4096x14336, .i32⟩
  | .hbm, ⟨16, _⟩ => ⟨S129x4096x14336, .i32⟩
  | .hbm, ⟨17, _⟩ => ⟨S_, .i32⟩
  | .hbm, ⟨18, _⟩ => ⟨S129x14336, .i32⟩
  | .hbm, ⟨19, _⟩ => ⟨S128x14336, .i32⟩
  | .hbm, ⟨20, _⟩ => ⟨S1x14336, .i32⟩
  | .hbm, ⟨21, _⟩ => ⟨S14336, .i32⟩
  | .hbm, ⟨22, _⟩ => ⟨S14336, .i32⟩
  | .hbm, ⟨23, _⟩ => ⟨S14336, .i32⟩
  | .hbm, ⟨24, _⟩ => ⟨S1x14336, .i32⟩
  | .hbm, ⟨25, _⟩ => ⟨S128x14336, .i32⟩
  | .hbm, ⟨26, _⟩ => ⟨S128x14336, .i32⟩
  | .hbm, ⟨27, _⟩ => ⟨S1x14336, .i32⟩
  | .hbm, ⟨28, _⟩ => ⟨S128x14336, .i32⟩
  | .hbm, ⟨29, _⟩ => ⟨S128x14336, .i32⟩
  | .hbm, ⟨30, _⟩ => ⟨S128x14336, .f32⟩
  | .hbm, ⟨31, _⟩ => ⟨S1x14336, .f32⟩
  | .hbm, ⟨32, _⟩ => ⟨S128x14336, .f32⟩
  | .hbm, ⟨33, _⟩ => ⟨S128x14336, .f32⟩
  | .hbm, ⟨34, _⟩ => ⟨S_, .i32⟩
  | .hbm, ⟨35, _⟩ => ⟨S_, .i32⟩
  | .hbm, ⟨36, _⟩ => ⟨S_, .f32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S128x14336, .f32⟩
  | .hbm, ⟨41, _⟩ => ⟨S128x14336, .f32⟩
  | .hbm, ⟨42, _⟩ => ⟨S128x14336, .f32⟩
  | .hbm, ⟨43, _⟩ => ⟨S128x14336, .f32⟩
  | .hbm, ⟨44, _⟩ => ⟨S128x14336, .f32⟩
  | .hbm, ⟨45, _⟩ => ⟨S128x14336, .i32⟩
  | .hbm, ⟨46, _⟩ => ⟨S128x14336, .i32⟩
  | .hbm, ⟨47, _⟩ => ⟨S128x14336, .i32⟩
  | .hbm, ⟨48, _⟩ => ⟨S128x14336, .i8⟩
  | _, _ => ⟨S1x128x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_1 : Ref sig .tc := ⟨.hbm, 34, rfl⟩
abbrev main_v26 : Ref sig .tc := ⟨.hbm, 35, rfl⟩
abbrev main_v27 : Ref sig .tc := ⟨.hbm, 36, rfl⟩
abbrev main_c_2 : Ref sig .tc := ⟨.hbm, 37, rfl⟩
abbrev main_v28 : Ref sig .tc := ⟨.hbm, 38, rfl⟩
abbrev main_v29 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Proof.Block.lean ====
/- What one grid point leaves behind: the column block it writes and the centred activations it keeps in scratch, as
   closed terms over the blocks it reads. -/
module

public import proofs.«01_k».proof.Proof.Gen.KernelIdeal.Value
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem

namespace Cert.KernelIdeal.Block

open Cert.KernelIdeal Cert.KernelIdeal.Gen

variable {F : FTy → Type} [FloatOps F]

/-- The zero point of `x`: entry 0 of the pair of zero points the kernel is handed. -/
abbrev zpX (x0 : Vec F S2 .i32) : Elt F .i32 := View.ld x0 (Rect.unit ![0] ![1] inb_S2_S1_0) (Shape.Idx.first (Nat.lt_of_sub_eq_succ rfl))

/-- The zero point of `y`: entry 1 of that pair. -/
abbrev zpY (x0 : Vec F S2 .i32) : Elt F .i32 := View.ld x0 (Rect.unit ![1] ![1] inb_S2_S1_1) (Shape.Idx.first (Nat.lt_of_sub_eq_succ rfl))

/-- The column block a point writes, from the zero point of `y`, the centred activations `xs`, the block `w` of weight
    columns and the matching pieces of the bias and of the scale: eight products over 512 contraction positions each,
    their integer sum with the bias, then scaling, clipping, rounding and the shift by the zero point. -/
def tile (zy : Elt F .i32) (xs : Vec F S128x4096 .bf16) (w : Vec F S4096x512 .i8) (b : Vec F S1x512 .i32) (s : Vec F S1x512 .f32) :
    IVec S128x512 8 :=
  k0_pay1 zy
    (k0_pay4
      (k0_pay3 (View.ld xs (Rect.unit ![0, 0] ![128, 512] inb_S128x4096_S128x512_0_0))
        (View.ld w (Rect.unit ![0, 0] ![512, 512] inb_S4096x512_S512x512_0_0))
        (View.ld xs (Rect.unit ![0, 512] ![128, 512] inb_S128x4096_S128x512_0_512))
        (View.ld w (Rect.unit ![512, 0] ![512, 512] inb_S4096x512_S512x512_512_0))
        (View.ld xs (Rect.unit ![0, 1024] ![128, 512] inb_S128x4096_S128x512_0_1024))
        (View.ld w (Rect.unit ![1024, 0] ![512, 512] inb_S4096x512_S512x512_1024_0))
        (View.ld xs (Rect.unit ![0, 1536] ![128, 512] inb_S128x4096_S128x512_0_1536))
        (View.ld w (Rect.unit ![1536, 0] ![512, 512] inb_S4096x512_S512x512_1536_0)))
      (View.ld xs (Rect.unit ![0, 2048] ![128, 512] inb_S128x4096_S128x512_0_2048))
      (View.ld w (Rect.unit ![2048, 0] ![512, 512] inb_S4096x512_S512x512_2048_0))
      (View.ld xs (Rect.unit ![0, 2560] ![128, 512] inb_S128x4096_S128x512_0_2560))
      (View.ld w (Rect.unit ![2560, 0] ![512, 512] inb_S4096x512_S512x512_2560_0))
      (View.ld xs (Rect.unit ![0, 3072] ![128, 512] inb_S128x4096_S128x512_0_3072))
      (View.ld w (Rect.unit ![3072, 0] ![512, 512] inb_S4096x512_S512x512_3072_0))
      (View.ld xs (Rect.unit ![0, 3584] ![128, 512] inb_S128x4096_S128x512_0_3584))
      (View.ld w (Rect.unit ![3584, 0] ![512, 512] inb_S4096x512_S512x512_3584_0)) b s)
    (k0_pay5 zy) (k0_pay6 zy)

/-- A load through any rectangle of a buffer one store has filled reads the stored array. -/
theorem readCov_fill (v : View sig .tc .vmem S128x4096 .bf16) (P : Vec F S128x4096 .bf16) (r : Rect S128x4096) :
    v.readCov [(⟨Rect.unit ![0, 0] ![128, 4096] inb_S128x4096_S128x4096_0_0, P⟩ : View.Piece (Elt F) S128x4096 .bf16)] r.toLoadRect
      = View.ld P r := by
  rw [View.readCov_eq_canon_ld _ _ _ (fun y => ⟨_, List.mem_cons_self, by
    show y ∈ (Rect.unit (s := S128x4096) ![0, 0] ![128, 4096] inb_S128x4096_S128x4096_0_0).set
    rw [Rect.mem_set_unit]
    intro a
    have := (y a).isLt
    fin_cases a <;> simpa using this⟩)]
  rw [View.canon_unit_zero (S := S128x4096) (off := ![0, 0]) (funext fun a => by fin_cases a <;> rfl)]

section
variable (c : Dev nD) (i : grid0.Coords) (arg1 : Memref sig .tc .smem S2 .i32) (harg1 : arg1.IsWhole) (arg2 : Memref sig .tc .vmem S128x4096 .i8) (harg2 : arg2.IsWhole) (arg3 : Memref sig .tc .vmem S4096x512 .i8) (harg3 : arg3.IsWhole) (arg4 : Memref sig .tc .vmem S1x512 .i32) (harg4 : arg4.IsWhole) (arg5 : Memref sig .tc .vmem S1x512 .f32) (harg5 : arg5.IsWhole) (arg6 : Memref sig .tc .vmem S128x512 .i8) (harg6 : arg6.IsWhole) (arg7 : Memref sig .tc .vmem S128x4096 .bf16) (harg7 : arg7.IsWhole)
    (x0 : Vec F S2 .i32) (x1 : Vec F S128x4096 .i8) (x2 : Vec F S4096x512 .i8) (x3 : Vec F S1x512 .i32) (x4 : Vec F S1x512 .f32)

/-- The first point leaves the centred activations in scratch. -/
theorem sout0_A (hc0 : cond0_0 i) :
    sout0_A_0 c i arg1 harg1 arg2 harg2 arg3 harg3 arg4 harg4 arg5 harg5 arg6 harg6 arg7 harg7 hc0 x0 x1 x2 x3 x4 = k0_pay2 (zpX x0) x1 := by
  frame_out

/-- The first point writes the column block computed from the activations it has just centred. -/
theorem out0_A (hc0 : cond0_0 i) :
    out0_A_5 c i arg1 harg1 arg2 harg2 arg3 harg3 arg4 harg4 arg5 harg5 arg6 harg6 arg7 harg7 hc0 x0 x1 x2 x3 x4
      = tile (zpY x0) (k0_pay2 (zpX x0) x1) x2 x3 x4 := by
  frame_out
  simp only [readCov_fill]
  rfl

/-- Every later point writes the column block computed from the activations it finds in scratch. -/
theorem out0_B (hc0 : ¬cond0_0 i) (xs : Vec F S128x4096 .bf16) :
    out0_B_5 c i arg1 harg1 arg2 harg2 arg3 harg3 arg4 harg4 arg5 harg5 arg6 harg6 arg7 harg7 hc0 x0 x1 x2 x3 x4 xs
      = tile (zpY x0) xs x2 x3 x4 := by
  frame_out
  rfl

end

end Cert.KernelIdeal.Block

end
-- ==== Proof.Words.lean ====
/- Integer words: a product over 512 positions that is exact in 32 bits, the eight of them together as one sum over 4096
   positions, and the same sum with the zero point taken outside. -/
module

public import Idealize.ShloMosaic.PureOps.Ideal
public import Idealize.ShloMosaic.PureOps
public import Idealize.ShloMosaic.PureOps.Reduce
public import Mathlib.Data.BitVec
public import Mathlib.Algebra.BigOperators.Fin
public import Mathlib.Tactic.NormNum
public import Mathlib.Tactic.Ring
public import Mathlib.Tactic.Push

@[expose] public section

noncomputable section

open Idealize.ShloMosaic
open scoped BigOperators

namespace Cert.Words

/-- The 32-bit word of a sum is the sum of the words. -/
theorem ofInt_sum {ι : Type} (s : Finset ι) (f : ι → ℤ) : BitVec.ofInt 32 (∑ i ∈ s, f i) = ∑ i ∈ s, BitVec.ofInt 32 (f i) := by
  classical
  induction s using Finset.induction_on with
  | empty => rfl
  | insert a s ha ih => rw [Finset.sum_insert ha, Finset.sum_insert ha, BitVec.ofInt_add, ih]

/-- Folding words by addition is summing them. -/
theorem fold_addi {ι : Type} (s : Finset ι) (f : ι → BitVec 32) : Finset.fold IntOp.addi (0#32) f s = ∑ i ∈ s, f i := by
  classical
  induction s using Finset.induction_on with
  | empty => rfl
  | insert a s ha ih => rw [Finset.fold_insert ha, Finset.sum_insert ha, ih]; rfl

/-- The cast of an integer sum to the extended reals, term by term. -/
theorem cast_sum {ι : Type} (s : Finset ι) (f : ι → ℤ) : (((∑ i ∈ s, f i : ℤ) : ℝ) : EReal) = ∑ i ∈ s, (((f i : ℤ) : ℝ) : EReal) := by
  classical
  induction s using Finset.induction_on with
  | empty => simp
  | insert a s ha ih => rw [Finset.sum_insert ha, Finset.sum_insert ha, Int.cast_add, EReal.coe_add, ih]

/-- An integer within 32 signed bits converts to its own word. -/
theorem fptosi_int (n : ℤ) (lo : -2147483648 ≤ n) (hi : n ≤ 2147483647) :
    Ideal.fptosi 32 (((n : ℝ)) : EReal) = BitVec.ofInt 32 n := by
  unfold Ideal.fptosi
  rw [Ideal.toIntClamped_coe]
  congr 1
  have e : (if (0 : ℝ) ≤ (n : ℝ) then ⌊(n : ℝ)⌋ else ⌈(n : ℝ)⌉) = n := by
    split <;> simp
  rw [e]
  norm_num
  omega

/-- The zero points for which the products over 512 positions all fit 32 bits. -/
def InRange (z : BitVec 32) : Prop := -32641 ≤ z.toInt ∧ z.toInt ≤ 32639

/-- The range of a signed byte. -/
theorem toInt_i8 (b : BitVec 8) : -128 ≤ b.toInt ∧ b.toInt ≤ 127 := by
  have h1 := BitVec.le_toInt b
  have h2 := BitVec.toInt_lt (x := b)
  norm_num at h1 h2
  omega

/-- One term of a product: a centred activation times a weight. -/
theorem term_bounds (z : BitVec 32) (h : InRange z) (x w : BitVec 8) :
    -4194304 ≤ (x.toInt - z.toInt) * w.toInt ∧ (x.toInt - z.toInt) * w.toInt ≤ 4194303 := by
  obtain ⟨x1, x2⟩ := toInt_i8 x
  obtain ⟨w1, w2⟩ := toInt_i8 w
  obtain ⟨z1, z2⟩ := h
  have d1 : -32767 ≤ x.toInt - z.toInt := by omega
  have d2 : x.toInt - z.toInt ≤ 32768 := by omega
  generalize x.toInt - z.toInt = d at d1 d2 ⊢
  generalize w.toInt = v at w1 w2 ⊢
  constructor <;> nlinarith

/-- A product of centred activations with weights over 512 positions, taken over the reals and converted, is the word of
    the integer product. -/
theorem chunk (z : BitVec 32) (h : InRange z) (x w : Fin 512 → BitVec 8) :
    Ideal.fptosi 32 (∑ k, ((((x k).toInt : ℝ) : EReal) - ((z.toInt : ℝ) : EReal)) * (((w k).toInt : ℝ) : EReal))
      = BitVec.ofInt 32 (∑ k, ((x k).toInt - z.toInt) * (w k).toInt) := by
  have e : (∑ k, ((((x k).toInt : ℝ) : EReal) - ((z.toInt : ℝ) : EReal)) * (((w k).toInt : ℝ) : EReal))
      = (((∑ k, ((x k).toInt - z.toInt) * (w k).toInt : ℤ) : ℝ) : EReal) := by
    rw [cast_sum]
    refine Finset.sum_congr rfl fun k _ => ?_
    push_cast
    rfl
  rw [e]
  refine fptosi_int _ ?_ ?_
  · have := Finset.card_nsmul_le_sum Finset.univ (fun k => ((x k).toInt - z.toInt) * (w k).toInt) (-4194304)
      (fun k _ => (term_bounds z h (x k) (w k)).1)
    simpa using this
  · have := Finset.sum_le_card_nsmul Finset.univ (fun k => ((x k).toInt - z.toInt) * (w k).toInt) 4194303
      (fun k _ => (term_bounds z h (x k) (w k)).2)
    have h2 : (∑ k, ((x k).toInt - z.toInt) * (w k).toInt) ≤ 2147483136 := by simpa using this
    omega

/-- A sum over 4096 positions is the eight sums over 512 of them, first to last. -/
theorem sum_chunks {M : Type} [AddCommMonoid M] (f : Fin 4096 → M) :
    ∑ k, f k = (∑ k : Fin 512, f ⟨k.val, by omega⟩) + (∑ k : Fin 512, f ⟨512 + k.val, by omega⟩)
      + (∑ k : Fin 512, f ⟨1024 + k.val, by omega⟩) + (∑ k : Fin 512, f ⟨1536 + k.val, by omega⟩)
      + (∑ k : Fin 512, f ⟨2048 + k.val, by omega⟩) + (∑ k : Fin 512, f ⟨2560 + k.val, by omega⟩)
      + (∑ k : Fin 512, f ⟨3072 + k.val, by omega⟩) + (∑ k : Fin 512, f ⟨3584 + k.val, by omega⟩) := by
  have e : ∑ k : Fin 4096, f k = ∑ p : Fin 8 × Fin 512, f (finProdFinEquiv p) := (Equiv.sum_comp (finProdFinEquiv (m := 8) (n := 512)) f).symm
  rw [e, Fintype.sum_prod_type, Fin.sum_univ_eight]
  refine congrArg₂ _ (congrArg₂ _ (congrArg₂ _ (congrArg₂ _ (congrArg₂ _ (congrArg₂ _ (congrArg₂ _ ?_ ?_) ?_) ?_) ?_) ?_) ?_) ?_
  all_goals
    refine Finset.sum_congr rfl fun k _ => congrArg f (Fin.ext ?_)
    simp [finProdFinEquiv]
    try omega

/-- Centring inside the product or subtracting the zero point times the column sum: one word. -/
theorem centred (z : BitVec 32) (x w : Fin 4096 → BitVec 8) :
    BitVec.ofInt 32 (∑ k, ((x k).toInt - z.toInt) * (w k).toInt)
      = (∑ k, (x k).signExtend 32 * (w k).signExtend 32) - z * ∑ k, (w k).signExtend 32 := by
  have hz : z = BitVec.ofInt 32 z.toInt := (BitVec.ofInt_toInt).symm
  have e : ∑ k, ((x k).toInt - z.toInt) * (w k).toInt = (∑ k, (x k).toInt * (w k).toInt) - z.toInt * ∑ k, (w k).toInt := by
    rw [Finset.mul_sum, ← Finset.sum_sub_distrib]
    exact Finset.sum_congr rfl fun k _ => by ring
  have hs : ∀ b : BitVec 8, b.signExtend 32 = BitVec.ofInt 32 b.toInt := fun b => rfl
  rw [e]
  conv_rhs => rw [hz]
  simp only [hs, ← BitVec.ofInt_mul, ← ofInt_sum]
  rw [sub_eq_add_neg, BitVec.ofInt_add, BitVec.ofInt_neg, ← sub_eq_add_neg]

end Cert.Words

end
-- ==== Proof.Element.lean ====
/- One element of a column block: the integer accumulator over all 4096 positions, requantised. -/
module

public import proofs.«01_k».proof.Proof.Block
public import proofs.«01_k».proof.Proof.Words
public import Idealize.ShloMosaic.Lib.Pointwise

@[expose] public section

set_option maxRecDepth 16384

noncomputable section

open Idealize.ShloMosaic Idealize.ShloMosaic.TcCoe Idealize.SL.Sem
open scoped BigOperators

namespace Cert.Requant

/-- Requantising one accumulator word: scaled, clipped to the range in which adding the zero point `zy` stays within eight
    bits, rounded to nearest even, shifted by `zy`, its low eight bits. -/
def quant (zy acc : BitVec 32) (s : EReal) : BitVec 8 :=
  BitVec.setWidth 8
    (IntOp.addi
      (Ideal.fptosi 32
        (Ideal.liftRound Ideal.roundHalfEven
          (min ((((127#32 - zy).toInt : ℤ) : ℝ) : EReal)
            (max ((((4294967168#32 - zy).toInt : ℤ) : ℝ) : EReal) (((acc.toInt : ℝ) : EReal) * s)))))
      zy)

/-- The accumulator at one place: the word of the sum, over the 4096 positions, of a centred activation times a weight,
    plus the bias. -/
def acc (zx : BitVec 32) (x w : Fin 4096 → BitVec 8) (b : BitVec 32) : BitVec 32 :=
  BitVec.ofInt 32 (∑ k, ((x k).toInt - zx.toInt) * (w k).toInt) + b

end Cert.Requant

namespace Cert.KernelIdeal.Block

open Cert.KernelIdeal Cert.KernelIdeal.Gen Cert.Words Cert.Requant

/-- One centred activation. -/
theorem centre_apply (zx : Elt Ideal .i32) (x : Vec Ideal S128x4096 .i8) (r : Fin 128) (k : Fin 4096) :
    k0_pay2 zx x (ix2 r k) = ((BitVec.toInt (x (ix2 r k)) : ℝ) : EReal) - ((BitVec.toInt zx : ℝ) : EReal) := by
  pointwise [k0_pay2]
  rfl

/-- One product over the 512 positions from `o` on, converted: the word of the integer product. -/
theorem piece (zx : Elt Ideal .i32) (h : InRange zx) (x : Vec Ideal S128x4096 .i8) (w : Vec Ideal S4096x512 .i8)
    (r : Fin 128) (j : Fin 512) (p : Fin 512 → Fin 4096) :
    FloatOps.fptosi (F := Ideal) (φ := .f32) 32
        (∑ k, k0_pay2 zx x (ix2 r (p k)) * FloatOps.sitofp (F := Ideal) .bf16 (w (ix2 (p k) j)))
      = BitVec.ofInt 32 (∑ k, ((BitVec.toInt (x (ix2 r (p k)))) - BitVec.toInt zx) * BitVec.toInt (w (ix2 (p k) j))) := by
  simp only [centre_apply]
  exact chunk zx h (fun k => x (ix2 r (p k))) (fun k => w (ix2 (p k) j))

/-- An element of the column block a point writes. -/
theorem tile_apply (zx zy : Elt Ideal .i32) (h : InRange zx) (x : Vec Ideal S128x4096 .i8) (w : Vec Ideal S4096x512 .i8)
    (b : Vec Ideal S1x512 .i32) (s : Vec Ideal S1x512 .f32) (r : Fin 128) (j : Fin 512) :
    tile zy (k0_pay2 zx x) w b s (ix2 r j)
      = quant zy (acc zx (fun k => x (ix2 r k)) (fun k => w (ix2 k j)) (b (ix2 0 j))) (s (ix2 0 j)) := by
  pointwise [tile, k0_pay1, k0_pay4, k0_pay3, k0_pay5, k0_pay6]
  rw [piece zx h x w r j (fun k => ⟨k.val, by omega⟩), piece zx h x w r j (fun k => ⟨512 + k.val, by omega⟩),
    piece zx h x w r j (fun k => ⟨1024 + k.val, by omega⟩), piece zx h x w r j (fun k => ⟨1536 + k.val, by omega⟩),
    piece zx h x w r j (fun k => ⟨2048 + k.val, by omega⟩), piece zx h x w r j (fun k => ⟨2560 + k.val, by omega⟩),
    piece zx h x w r j (fun k => ⟨3072 + k.val, by omega⟩), piece zx h x w r j (fun k => ⟨3584 + k.val, by omega⟩)]
  unfold acc
  rw [sum_chunks]
  simp only [BitVec.ofInt_add]
  unfold quant
  simp only [IntOp.addi, BitVec.zero_add]
  rfl

end Cert.KernelIdeal.Block

end
-- ==== Proof.Inputs.lean ====
/- What each input window's block holds at a grid point, in terms of the arguments. -/
module

public import proofs.«01_k».proof.Proof.Gen.KernelIdeal.Value
public import Idealize.ShloMosaic.Lib.Tactic
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.KernelIdeal.Inputs

open Cert.KernelIdeal Cert.KernelIdeal.Gen

variable {F : FTy → Type} [FloatOps F]
variable (m : (ℓ : Loc nD τ sig) → Buf (Elt F) ℓ)

/-- The block every window reads at point `t`: block `t` along the columns for the weights, the bias and the scale,
    the one block there is for the zero points and the activations. -/
theorem idx : ∀ t : Fin cfg0.N, win0_0.index t = ![0] ∧ win0_1.index t = ![0, 0] ∧ win0_2.index t = ![0, t.val]
    ∧ win0_3.index t = ![0, t.val] ∧ win0_4.index t = ![0, t.val] :=
  (by decide +kernel : ∀ t : Fin grid0.N, _)

/-- The grid has 28 points. -/
theorem point_lt (t : Fin cfg0.N) : t.val < 28 := lt_of_lt_of_eq t.isLt N_0

/-- Column `j` of block `t`. -/
abbrev col (t : Fin cfg0.N) (j : Fin 512) : Fin 14336 := ⟨512 * t.val + j.val, by have := point_lt t; omega⟩

/-- Entry 0 of the zero points is `x`'s. -/
theorem zp_x (c : Dev nD) (t : Fin cfg0.N) : iblk m c 0 t (ix1 (n0 := 2) 0) = m ((c : Thread nD τ).loc main_arg1) ix0 := by
  have e : iblk m c 0 t (ix1 (n0 := 2) 0) = V m c main_v2 (ix1 (n0 := 2) 0) := by
    blk_ext! [iblk, idx t]
  rw [e]
  entry_read
  pointwise

/-- Entry 1 is `y`'s. -/
theorem zp_y (c : Dev nD) (t : Fin cfg0.N) : iblk m c 0 t (ix1 (n0 := 2) 1) = m ((c : Thread nD τ).loc main_arg5) ix0 := by
  have e : iblk m c 0 t (ix1 (n0 := 2) 1) = V m c main_v2 (ix1 (n0 := 2) 1) := by
    blk_ext! [iblk, idx t]
  rw [e]
  entry_read
  pointwise

/-- The block of activations: the argument without its leading axis, at every point. -/
theorem x_blk (c : Dev nD) (t : Fin cfg0.N) (r : Fin 128) (k : Fin 4096) :
    iblk m c 1 t (ix2 r k) = m ((c : Thread nD τ).loc main_arg0) (ix3 (0 : Fin 1) r k) := by
  blk_ext! [iblk, V, idx t]

/-- The block of weights: all the rows of the point's 512 columns. -/
theorem w_blk (c : Dev nD) (t : Fin cfg0.N) (k : Fin 4096) (j : Fin 512) :
    iblk m c 2 t (ix2 k j) = m ((c : Thread nD τ).loc main_arg2) (ix2 k (col t j)) := by
  blk_ext! [iblk, V, idx t]

/-- The block of biases: those of the point's columns. -/
theorem b_blk (c : Dev nD) (t : Fin cfg0.N) (j : Fin 512) :
    iblk m c 3 t (ix2 (0 : Fin 1) j) = m ((c : Thread nD τ).loc main_arg3) (ix1 (col t j)) := by
  blk_ext! [iblk, V, idx t]

/-- The block of scales: those of the point's columns. -/
theorem s_blk (c : Dev nD) (t : Fin cfg0.N) (j : Fin 512) :
    iblk m c 4 t (ix2 (0 : Fin 1) j) = m ((c : Thread nD τ).loc main_arg4) (ix1 (col t j)) := by
  blk_ext! [iblk, V, idx t]

end Cert.KernelIdeal.Inputs

end
-- ==== Proof.Result.lean ====
/- The array the kernel leaves: what the output block and the scratch hold after every grid point, and from that every
   element of the result in terms of the arguments. -/
module

public import proofs.«01_k».proof.Proof.Element
public import proofs.«01_k».proof.Proof.Inputs
public import Idealize.ShloMosaic.Lib.Pointwise

@[expose] public section

set_option maxRecDepth 16384

noncomputable section

open Idealize.ShloMosaic Idealize.ShloMosaic.TcCoe Idealize.SL.Sem

namespace Cert.KernelIdeal.Result

open Cert.KernelIdeal Cert.KernelIdeal.Gen Cert.KernelIdeal.Block Cert.KernelIdeal.Inputs Cert.KernelIdeal.Value Cert.Words Cert.Requant

section Points
variable {F : FTy → Type} [FloatOps F] (m : (ℓ : Loc nD τ sig) → Buf (Elt F) ℓ)

/-- The zero point of `x`, read off the block of zero points at any grid point. -/
theorem zpX_eq (c : Dev nD) (t : Fin cfg0.N) : zpX (iblk m c 0 t) = m ((c : Thread nD τ).loc main_arg1) ix0 := by
  rw [← zp_x m c t]
  exact congrArg (iblk m c 0 t) (funext fun a => by fin_cases a; rfl)

/-- The zero point of `y`, likewise. -/
theorem zpY_eq (c : Dev nD) (t : Fin cfg0.N) : zpY (iblk m c 0 t) = m ((c : Thread nD τ).loc main_arg5) ix0 := by
  rw [← zp_y m c t]
  exact congrArg (iblk m c 0 t) (funext fun a => by fin_cases a; rfl)

/-- The activations as rows: the argument without its leading axis of extent one. -/
def rows (c : Dev nD) : Vec F S128x4096 .i8 := fun y => m ((c : Thread nD τ).loc main_arg0) (ix3 (0 : Fin 1) (y 0) (y 1))

/-- The block of activations is the same at every point: all the rows. -/
theorem x_eq (c : Dev nD) (t : Fin cfg0.N) : iblk m c 1 t = rows m c := by
  funext y
  obtain ⟨r, k, rfl⟩ : ∃ (r : Fin 128) (k : Fin 4096), y = ix2 r k := ⟨y 0, y 1, eq_ix2 y⟩
  exact x_blk m c t r k

/-- After every point the scratch holds the centred activations, and the output block is computed from them. -/
theorem outs_eq (c : Dev nD) : ∀ (n : ℕ) (h : n < cfg0.N),
    (outsAt0 m c n h).1 = tile (m ((c : Thread nD τ).loc main_arg5) ix0) (k0_pay2 (m ((c : Thread nD τ).loc main_arg1) ix0) (rows m c))
        (iblk m c 2 ⟨n, h⟩) (iblk m c 3 ⟨n, h⟩) (iblk m c 4 ⟨n, h⟩)
      ∧ (outsAt0 m c n h).2 = k0_pay2 (m ((c : Thread nD τ).loc main_arg1) ix0) (rows m c) := by
  intro n
  induction n with
  | zero =>
    intro h
    rw [outsAt0_A m c ⟨0, h⟩ rfl]
    dsimp only
    rw [out0_A, sout0_A, zpX_eq, zpY_eq, x_eq]
    exact ⟨rfl, rfl⟩
  | succ n ih =>
    intro h
    have hN : cfg0.N = 28 := N_0
    have hB : ¬(⟨n + 1, h⟩ : Fin cfg0.N).val % 28 = 0 := by dsimp only; omega
    rw [outsAt0_B m c ⟨n + 1, h⟩ hB]
    dsimp only
    rw [out0_B, zpY_eq]
    have e := (ih (Nat.lt_of_succ_lt h)).2
    refine ⟨congrArg (fun z => tile _ z _ _ _) e, e⟩

end Points

variable (m : (ℓ : Loc nD τ sig) → Buf (Elt Ideal) ℓ)

/-- The result at row `r` and column `n`. -/
def elem (c : Dev nD) (r : Fin 128) (n : Fin 14336) : BitVec 8 :=
  quant (m ((c : Thread nD τ).loc main_arg5) ix0)
    (acc (m ((c : Thread nD τ).loc main_arg1) ix0) (fun k => m ((c : Thread nD τ).loc main_arg0) (ix3 (0 : Fin 1) r k))
      (fun k => m ((c : Thread nD τ).loc main_arg2) (ix2 k n)) (m ((c : Thread nD τ).loc main_arg3) (ix1 n)))
    (m ((c : Thread nD τ).loc main_arg4) (ix1 n))

/-- The result array. -/
def out (c : Dev nD) : Buf (Elt Ideal) ((c : Thread nD τ).loc main_v6) := fun i => elem m c (i 0) (i 1)

/-- The kernel's result array, element by element, for zero points of `x` in range. -/
theorem G5_eq (c : Dev nD) (h : InRange (m ((c : Thread nD τ).loc main_arg1) ix0)) : G5 m c = out m c := by
  funext i
  have hN : cfg0.N = 28 := N_0
  have h0 : (i 0).val < 128 := (i 0).isLt
  have h1 : (i 1).val < 14336 := (i 1).isLt
  have hp : pt5Of i < cfg0.N := by simp only [pt5Of, run5Of]; omega
  unfold G5
  rw [dif_pos hp, ← outsAt0_sweep m c (pt5Of i) hp, (outs_eq m c (pt5Of i) hp).1]
  have hl : loc5Of i = ix2 (⟨(i 0).val % 128, Nat.mod_lt _ (by decide)⟩ : Fin 128) (⟨(i 1).val % 512, Nat.mod_lt _ (by decide)⟩ : Fin 512) := by
    funext a; fin_cases a <;> rfl
  rw [hl, tile_apply _ _ h]
  have hc : col ⟨pt5Of i, hp⟩ ⟨(i 1).val % 512, Nat.mod_lt _ (by decide)⟩ = i 1 := by
    apply Fin.ext
    simp only [pt5Of, run5Of]
    omega
  have hr : (⟨(i 0).val % 128, Nat.mod_lt _ (by decide)⟩ : Fin 128) = i 0 := Fin.ext (Nat.mod_eq_of_lt h0)
  simp only [w_blk, b_blk, s_blk, hc, hr]
  rfl

end Cert.KernelIdeal.Result

end
-- ==== Proof.Reference.lean ====
/- What the reference computes, element by element. -/
module

public import proofs.«01_k».proof.Proof.Gen.ReferenceIdeal.Run
public import proofs.«01_k».proof.Proof.Element
public import Idealize.ShloMosaic.Lib.Pointwise

@[expose] public section

set_option maxRecDepth 16384

noncomputable section

open Idealize.ShloMosaic Idealize.ShloMosaic.TcCoe Idealize.SL.Sem
open scoped BigOperators

namespace Cert.ReferenceIdeal.Element

open Cert.ReferenceIdeal Cert.ReferenceIdeal.Gen Cert.Words Cert.Requant

variable (x : IVec S1x128x4096 8) (zx : IVec S_ 32) (w : IVec S4096x14336 8) (b : IVec S14336 32)
  (s : FVec Ideal S14336 .f32) (zy : IVec S_ 32)

/-- The reference's sums over the contraction positions: a row per row of `x`, and one more for the column sums of `w`. -/
def sums : IVec S129x14336 32 :=
  Host.reduce IntOp.addi (muli (broadcastInDim S129x4096x14336 ![0, 1, 2] bcast_S129x4096x1_S129x4096x14336_0_1_2 (broadcastInDim S129x4096x1 ![0, 1] bcast_S129x4096_S129x4096x1_0_1 (extsi 32 (concatenate S129x4096 0 [⟨S128x4096, (shapeCast _ x shapeCasts_S1x128x4096_S128x4096)⟩, ⟨S1x4096, (broadcastInDim S1x4096 ![] bcast_S_S1x4096 (constantI S_ 8 1#8))⟩] concatenates_S128x4096_S1x4096_S129x4096_d0) natLt_8_32))) (broadcastInDim S129x4096x14336 ![0, 1, 2] bcast_S1x4096x14336_S129x4096x14336_0_1_2 (broadcastInDim S1x4096x14336 ![1, 2] bcast_S4096x14336_S1x4096x14336_1_2 (extsi 32 w natLt_8_32)))) (constantI S_ 32 0#32) reducesTo_S129x4096x14336_S129x14336_d1 h_S_

/-- A row of `x`: the word of its integer product with a column of `w`. -/
theorem sums_row (r : Fin 128) (n : Fin 14336) :
    sums x w (ix2 (⟨r.val, by omega⟩ : Fin 129) n) = ∑ k : Fin 4096, (BitVec.signExtend 32 (x (ix3 (0 : Fin 1) r k)) * BitVec.signExtend 32 (w (ix2 k n)) : BitVec 32) := by
  pointwise [sums]
  rw [fold_addi]
  refine Finset.sum_congr rfl fun k _ => ?_
  rfl

/-- The row of ones: the word of the column sum of `w`. -/
theorem sums_ones (n : Fin 14336) :
    sums x w (ix2 (⟨128, by omega⟩ : Fin 129) n) = ∑ k : Fin 4096, (BitVec.signExtend 32 (w (ix2 k n)) : BitVec 32) := by
  pointwise [sums]
  rw [fold_addi]
  refine Finset.sum_congr rfl fun k _ => ?_
  show BitVec.signExtend 32 (1#8) * BitVec.signExtend 32 (w (ix2 k n)) = _
  rw [show BitVec.signExtend 32 (1#8) = 1#32 by decide, BitVec.one_mul]

/-- The reference's result as a function of its arguments. -/
def value : IVec S128x14336 8 :=
  trunci 8 (addi (fptosi 32 (Host.roundeven (minimumf (broadcastInDim S128x14336 ![] bcast_S_S128x14336 (sitofp .f32 (subi (constantI S_ 32 127#32) zy))) (maximumf (broadcastInDim S128x14336 ![] bcast_S_S128x14336 (sitofp .f32 (subi (constantI S_ 32 4294967168#32) zy))) (mulf (sitofp .f32 (addi (subi (extractStridedSlice S128x14336 ![0, 0] (sums x w) slices_S129x14336_S128x14336_0_0) (broadcastInDim S128x14336 ![0, 1] bcast_S1x14336_S128x14336_0_1 (broadcastInDim S1x14336 ![1] bcast_S14336_S1x14336_1 (muli (broadcastInDim S14336 ![] bcast_S_S14336 zx) (shapeCast _ (extractStridedSlice S1x14336 ![128, 0] (sums x w) slices_S129x14336_S1x14336_128_0) shapeCasts_S1x14336_S14336))))) (broadcastInDim S128x14336 ![0, 1] bcast_S1x14336_S128x14336_0_1 (broadcastInDim S1x14336 ![1] bcast_S14336_S1x14336_1 b)))) (broadcastInDim S128x14336 ![0, 1] bcast_S1x14336_S128x14336_0_1 (broadcastInDim S1x14336 ![1] bcast_S14336_S1x14336_1 s))))))) (broadcastInDim S128x14336 ![] bcast_S_S128x14336 zy)) natLt_8_32

/-- An element of the reference's result, for every zero point: its accumulator is the word of the sum of
    centred activations times weights, because the product and the column sum wrap by the same modulus. -/
theorem value_apply (r : Fin 128) (n : Fin 14336) :
    value x zx w b s zy (ix2 r n)
      = quant (zy ix0) (acc (zx ix0) (fun k => x (ix3 (0 : Fin 1) r k)) (fun k => w (ix2 k n)) (b (ix1 n))) (s (ix1 n)) := by
  unfold acc
  rw [centred, ← sums_row, ← sums_ones]
  generalize hS : sums x w = S
  pointwise [value, hS]
  rfl

end Cert.ReferenceIdeal.Element

end
-- ==== Proof.Equation.lean ====
/- The kernel's array and the reference's are the same function of the same arguments. -/
module

public import proofs.«01_k».proof.Defs
public import proofs.«01_k».proof.Proof.Gen.ReferenceIdeal.Run
public import proofs.«01_k».proof.Proof.Result
public import proofs.«01_k».proof.Proof.Reference
public import Idealize.ShloMosaic.Lib.Claim
public import Idealize.ShloMosaic.Lib.Affine

@[expose] public section

set_option maxRecDepth 16384

noncomputable section

open Idealize.ShloMosaic Idealize.ShloMosaic.TcCoe Idealize.SL.Sem

namespace Cert.Equation

open Cert.Words

/-- The predicate on the zero points states no fact about shapes. -/
instance preFacts : Cert.Pre_zero_point.Facts := ⟨⟩

/-- The precondition says that the zero point of `x` lies between -32641 and 32639. -/
theorem inRange (m : (ℓ : Loc Cert.KernelIdeal.nD Cert.KernelIdeal.τ Cert.KernelIdeal.sig) → Buf (Elt Ideal) ℓ)
    (h : Cert.Pre_KernelIdeal_zero_point m) (c : Dev Cert.KernelIdeal.nD) :
    InRange (m ((c : Thread Cert.KernelIdeal.nD Cert.KernelIdeal.τ).loc Cert.KernelIdeal.main_arg1) ix0) := by
  obtain ⟨h1, h2⟩ := h c
  dsimp only [Cert.Pre_zero_point.fn] at h1 h2
  have e1 := congrFun h1 ix0
  have e2 := congrFun h2 ix0
  exact ⟨IntOp.cmpi_sge.mp e1, IntOp.cmpi_sle.mp e2⟩

/-- The reference's array, over the arguments the kernel holds, is the kernel's result. -/
theorem value_eq (m : (ℓ : Loc Cert.KernelIdeal.nD Cert.KernelIdeal.τ Cert.KernelIdeal.sig) → Buf (Elt Ideal) ℓ)
    (h : Cert.Pre_KernelIdeal_zero_point m) (c : Dev Cert.KernelIdeal.nD) :
    Cert.ReferenceIdeal.Element.value
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.Value.G5 m c := by
  rw [Cert.KernelIdeal.Result.G5_eq m c (inRange m h c)]
  funext i
  obtain ⟨r, n, rfl⟩ : ∃ (r : Fin 128) (n : Fin 14336), i = ix2 r n := ⟨i 0, i 1, eq_ix2 i⟩
  exact Cert.ReferenceIdeal.Element.value_apply _ _ _ _ _ _ r n

/-- Both programs leave the same array. -/
theorem algebraic : Cert.algebraic_KernelIdeal_ReferenceIdeal_pre_zero_point := by
  pair_intro
  · run_from Cert.KernelIdeal.Value.run m g
  · run_from Cert.ReferenceIdeal.Value.run m' g'
    exact value_eq m hpre _

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Equation
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, and leaves its arguments and every semaphore counter as they were. -/
theorem frame_reference : Cert.quiescent_ReferenceIdeal := by
  intro m g _
  exact θ_run_mono (Cert.ReferenceIdeal.Value.run m g) fun r h =>
    ⟨fun c => (h c).2, sem_eq_zero_of_no_sems (sig := Cert.ReferenceIdeal.sig) rfl _⟩

/-- Everything the certificate claims. -/
theorem claim : Cert.Claim :=
  ⟨Cert.Kernel.Gen.facts, Cert.KernelIdeal.Gen.facts, Cert.ReferenceIdeal.Gen.facts, Cert.Equation.preFacts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    Cert.Equation.algebraic⟩

end Cert.Proof

end
